-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)
      ∧ m' ((c.tc : Thread Cert.Reference.nD Cert.Reference.τ).loc Cert.Reference.main_arg7) = m ((c.tc : Thread Cert.Kernel.nD Cert.Kernel.τ).loc Cert.Kernel.main_arg7)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_cst) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6)
          ∧ r.2.mem ((c.tc : Thread Cert.Reference.nD Cert.Reference.τ).loc Cert.Reference.main_arg7) = m' ((c.tc : Thread Cert.Reference.nD Cert.Reference.τ).loc Cert.Reference.main_arg7))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_cst) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
-- ==== Kernel.lean ====
abbrev S8x8x4096x8x8x2 : Shape := ⟨6, ![8, 8, 4096, 8, 8, 2]⟩
abbrev S8x8x4096x8x8 : Shape := ⟨5, ![8, 8, 4096, 8, 8]⟩
abbrev S8x8x4096 : Shape := ⟨3, ![8, 8, 4096]⟩
abbrev S8x9x3x3 : Shape := ⟨4, ![8, 9, 3, 3]⟩
abbrev S8x9x4x4 : Shape := ⟨4, ![8, 9, 4, 4]⟩
abbrev S8x8x4x4 : Shape := ⟨4, ![8, 8, 4, 4]⟩
abbrev S8x8x512x512 : Shape := ⟨4, ![8, 8, 512, 512]⟩
abbrev S1x128 : Shape := ⟨2, ![1, 128]⟩
abbrev S1x1 : Shape := ⟨2, ![1, 1]⟩
abbrev S_ : Shape := ⟨0, ![]⟩

abbrev nBuf : Space → Nat
  | .hbm => 11
  | .vmem => 1
  | .smem => 0
  | _ => 0

abbrev bufTy : (tb : Table) → Fin (tcTables nBuf tb) → BufTy
  | .hbm, ⟨0, _⟩ => ⟨S8x8x4096x8x8x2, .f32⟩
  | .hbm, ⟨1, _⟩ => ⟨S8x8x4096x8x8, .f32⟩
  | .hbm, ⟨2, _⟩ => ⟨S8x8x4096x8x8, .f32⟩
  | .hbm, ⟨3, _⟩ => ⟨S8x8x4096, .i32⟩
  | .hbm, ⟨4, _⟩ => ⟨S8x9x3x3, .f32⟩
  | .hbm, ⟨5, _⟩ => ⟨S8x9x4x4, .f32⟩
  | .hbm, ⟨6, _⟩ => ⟨S8x8x4x4, .f32⟩
  | .hbm, ⟨7, _⟩ => ⟨S8x8x512x512, .f32⟩
  | .hbm, ⟨8, _⟩ => ⟨S1x128, .f32⟩
  | .hbm, ⟨9, _⟩ => ⟨S1x1, .f32⟩
  | .hbm, ⟨10, _⟩ => ⟨S_, .f32⟩
  | .local _ .vmem, ⟨0, _⟩ => ⟨S1x128, .f32⟩
  | _, _ => ⟨S8x8x4096x8x8x2, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S8x8x4096x8x8x2 : Shape := ⟨6, ![8, 8, 4096, 8, 8, 2]⟩
abbrev S8x8x4096x8x8 : Shape := ⟨5, ![8, 8, 4096, 8, 8]⟩
abbrev S8x8x4096 : Shape := ⟨3, ![8, 8, 4096]⟩
abbrev S8x9x3x3 : Shape := ⟨4, ![8, 9, 3, 3]⟩
abbrev S8x9x4x4 : Shape := ⟨4, ![8, 9, 4, 4]⟩
abbrev S8x8x4x4 : Shape := ⟨4, ![8, 8, 4, 4]⟩
abbrev S8x8x512x512 : Shape := ⟨4, ![8, 8, 512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8x8x4096x8x8x2, .f32⟩
  | .hbm, ⟨1, _⟩ => ⟨S8x8x4096x8x8, .f32⟩
  | .hbm, ⟨2, _⟩ => ⟨S8x8x4096x8x8, .f32⟩
  | .hbm, ⟨3, _⟩ => ⟨S8x8x4096, .i32⟩
  | .hbm, ⟨4, _⟩ => ⟨S8x9x3x3, .f32⟩
  | .hbm, ⟨5, _⟩ => ⟨S8x9x4x4, .f32⟩
  | .hbm, ⟨6, _⟩ => ⟨S8x8x4x4, .f32⟩
  | .hbm, ⟨7, _⟩ => ⟨S8x8x512x512, .f32⟩
  | .hbm, ⟨8, _⟩ => ⟨S_, .f32⟩
  | _, _ => ⟨S8x8x4096x8x8x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩

abbrev nD : Nat := 1
abbrev τ : Topo := Topo.v7x

variable {F : FTy → Type} [FloatOps F]
-- ==== Proof.Launch.lean ====
/- How the kernel runs, over any float values `F`: the body's triple, the proof data of the one-point pipeline, and the
   launch of @main (the pallas_call, then the host's slice and reshape of its array). -/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Pipeline.ValueKit
public import Idealize.ShloMosaic.Lib.Exec

@[expose] public section

noncomputable section

namespace Cert.Kernel.Zero

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The value of the zero word. -/
abbrev zero : F .f32 := Scalar.ofBits .f32 0x00000000#32

/-! ## The body -/

/-- The body stores over its whole staging buffer, whatever the buffer held. -/
theorem cover (p : Vec F S1x128 .f32) (y : S1x128.Idx) :
    ∃ q ∈ ([⟨Rect.unit (s := S1x128) ![0, 0] S1x128.size inb_S1x128_S1x128_0_0, p⟩] : List (View.Piece (Elt F) S1x128 .f32)),
      y ∈ q.1.set :=
  View.cover_of_tiled_head _ _ _ (by rfl) y

/-- What it stores is the zero at every element. -/
theorem stored : View.canon ([⟨Rect.unit (s := S1x128) ![0, 0] S1x128.size inb_S1x128_S1x128_0_0, k0_pay1 (F := F)⟩] :
    List (View.Piece (Elt F) S1x128 .f32)) = fun _ => zero :=
  View.canon_cons_unit_lit _ _ _ (by decide)

set_option maxHeartbeats 1000000 in
/-- The body, given its staging buffer at any contents, leaves the buffer at zero. -/
theorem body_triple (c : Dev nD) (a : Memref sig .tc .vmem S1x128 .f32) (ha : a.IsWhole) (K : PUnit → sProp 𝕄) :
    iprop((∃ d, owns (c : Thread nD τ) a fullShare d)
        ∗ (iprop(owns (c : Thread nD τ) a fullShare fun _ => zero) -∗ K ⟨⟩))
      ⊢ wp frame (wpE (defs₀ (F := F)) Variants.none c none) Set.univ (cc0__zero_tile_kernel a ha) K := by
  rw [cc0__zero_tile_kernel_eq_skeleton]
  unfold cc0__zero_tile_kernel_skel owns
  iintro ⟨⟨%d, %f, -, H⟩, Hk⟩
  sl_exec
  sl_step
  iapply Hk
  iexists _; isplitr
  swap; · iexact H
  ipureintro
  exact (View.read_writes_eq_canon _ _ _ (cover _)).trans stored

/-! ## The pipeline -/

/-- Core `c`'s buffers when the pallas_call is entered: as launched, since no host operation comes before it. -/
abbrev entry (c : Dev nD) : Valuation τ sig (Elt F) := StableHlo.after (List.flatten []) fun b => m (c, b)

/-- The pipeline's proof data: its one array as launched, and its staging buffer at zero after the body. -/
def dat (_ : Fin 1) (c : Dev nD) : Dat τ (Elt F) Unit ℕ (UR sig nD τ) ℕ cfg0 c where
  A w := entry m c (Proc.devRef .tc (Pipeline.arrRef spec0 w))
  after w _ := match w with
    | ⟨0, _⟩ => fun _ => zero
  Φ _ := Pipeline.ΦA spec0 c
  q _ := fullShare
  owed _ := 0

theorem dat_after (c : Dev nD) (t : Fin cfg0.N) : (dat (F := F) m 0 c).after 0 t = fun _ => zero := by
  dsimp only [dat]

/-- At its one point the body takes what the pipeline hands it to what the proof data says. -/
theorem body_ok (c : Dev nD) :
    BodyObligation (dat (F := F) m 0 c) (defs₀ (F := F)) Variants.none () Set.univ := fun t => by
  have row : defs₀ (F := F) .tc cfg0.body (cfg0.bodyArgs t (cfg0.slots t)) = bodyAt0 t := by
    unfold defs₀; rw [Defs.onTc_tc]
  rw [bigSep_W0, bigSep_W0, row]
  refine triple_restated (P := iprop((dat (F := F) m 0 c).Φ t.castSucc ∗ (dat (F := F) m 0 c).owesAt () t.castSucc
      ∗ (∃ d, owns (c : Thread nD τ) (st0_0 t) fullShare ((dat (F := F) m 0 c).before 0 t d))))
    (Q := fun _ => iprop((dat (F := F) m 0 c).Φ t.succ ∗ (dat (F := F) m 0 c).owesAt () t.succ
      ∗ owns (c : Thread nD τ) (st0_0 t) fullShare ((dat (F := F) m 0 c).after 0 t))) ?_ rfl .rfl fun _ => .rfl
  rw [show (dat (F := F) m 0 c).Φ t.succ = (dat (F := F) m 0 c).Φ t.castSucc from rfl,
    show (dat (F := F) m 0 c).owesAt () t.succ = (dat (F := F) m 0 c).owesAt () t.castSucc from rfl, dat_after]
  iintro ⟨HΦ, Ho, ⟨%d, H⟩⟩
  iapply (body_triple c _ _ _)
  isplitl [H]; · iexists _; iexact H
  iintro ⟨H⟩
  isplitl [HΦ]; · iexact HΦ
  isplitl [Ho]; · iexact Ho
  iexact H

/-! ## @main -/

/-- What the buffers hold at the end, the pallas_call's array apart. -/
abbrev final (c : Dev nD) (b : Ref sig .tc) : Buf (Elt F) ((c : Thread nD τ).loc b) :=
  Pipeline.afterTail₀ cfgs (dat m) 0 (entry m) [hostOps1] c b

/-- The host's slice and reshape write no buffer but their two results. -/
theorem host_writes (b : Ref sig .tc) (h₁ : b ≠ main_v1) (h₂ : b ≠ main_v2) :
    ∀ op ∈ (hostOps1 : List (HloOp τ sig (Elt F))), Proc.devRef .tc b ∉ op.writes := by
  intro op hop
  simp only [hostOps1, List.mem_cons, List.mem_nil_iff, _root_.or_false] at hop
  rcases hop with rfl | rfl
  · rw [StableHlo.unary_writes, Finset.mem_singleton]; exact StableHlo.devRef_ne_of_ne h₁
  · rw [StableHlo.reshape_writes, Finset.mem_singleton]; exact StableHlo.devRef_ne_of_ne h₂

set_option backward.isDefEq.respectTransparency.types false in
set_option maxHeartbeats 800000 in
/-- Every weakly fair execution of @main ends, the pipeline's array at what the proof data says, every other unscoped
    buffer at `final`, and every semaphore counter at zero. -/
theorem launch : θ_run defs (onTc (τ := τ) (main (F := F))) (s₀ m ρ)
    (fun r => Pipeline.FramePost cfgs (dat m) 0 (final m) r ∧ r.2.sem = fun _ => 0) :=
  Pipeline.θ_run_frame_around (Q' := _) cfgs (dat m) (0 : Fin 1) launch0 defs₀ Variants.none m ρ main
    (hbody := fun c => (body_ok m c).loose) (hshare := fun c => (dat m 0 c).share_full fun _ => rfl)
    (howed := fun _ _ => rfl) (V₀ := entry m) (opss := [hostOps1])
    (hsub := by
      rw [Pipeline.tailRefs_none spec0 launch0.win.arr_unscoped]
      intro ops hops op hop
      rw [List.mem_singleton.mp hops] at hop
      exact Pipeline.sub_ucRefs op (List.forall_iff_forall_mem.mp hostOps1_sub op hop))
    (hfresh := by
      intro ops hops op hop
      rw [List.mem_singleton.mp hops] at hop
      simp only [hostOps1, List.mem_cons, List.mem_nil_iff, _root_.or_false] at hop
      rcases hop with rfl | rfl <;> rfl)
    (hkeep := by
      intro ops hops op hop w
      rw [List.mem_singleton.mp hops] at hop
      fin_cases w
      exact host_writes main_v0 (by decide) (by decide) op hop)
    (hmain := Pipeline.hmain_around cfgs 0 defs₀ Variants.none m main [] [hostOps1] trivial
      trivial main_chain)
    (hA := fun c w => by dsimp only [dat]) (hΦ := fun _ _ => rfl)

end Cert.Kernel.Zero

end
-- ==== Proof.Zero.lean ====
/- What the kernel computes, over any float values `F`: its array ends at zero everywhere, so the element that the host
   takes from it is zero, and the arguments end as they were. -/
module

public import proofs.«01_k».proof.Proof.Launch

@[expose] public section

noncomputable section

namespace Cert.Kernel.Zero

open Cert.Kernel Cert.Kernel.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The pallas_call's f32[1, 128] array ends at zero: its one point writes it whole. -/
theorem array_zero (c : Dev nD) : (dat (F := F) m 0 c).arrAt 0 (cfgs 0).N = fun _ => zero := by
  refine (dat m 0 c).arrAt_eq_of_after_last 0 t0_0 (by decide +kernel) _ fun j => ?_
  rw [dat_after]
  rfl

/-- The host's slice and reshape of that array leave zero in the scalar result. -/
theorem result_zero (c : Dev nD) : final m c main_v2 = constant (F := F) S_ .f32 0x00000000#32 := by
  have h : Pipeline.withArrays (τ := τ) (cfgs 0).spec c (entry m c) (fun w => (dat (F := F) m 0 c).arrAt w (cfgs 0).N)
      (Proc.devRef .tc main_v0) = fun _ => zero :=
    (Pipeline.withArrays_arr (cfgs 0).spec launch0.win.arr_inj c (entry m c) _ 0).trans (array_zero m c)
  unfold final Pipeline.afterTail₀
  simp only [List.flatten_cons, List.flatten_nil, List.append_nil]
  after_results
  rw [h]
  rfl

/-- A buffer that is neither the pallas_call's array nor written by the host ends as launched. -/
theorem final_of_ne (c : Dev nD) (b : Ref sig .tc) (h₀ : b ≠ main_v0) (h₁ : b ≠ main_v1) (h₂ : b ≠ main_v2) :
    final m c b = m ((c : Thread nD τ).loc b) := by
  unfold final Pipeline.afterTail₀
  rw [after_of_forall_not_mem (b := Proc.devRef .tc b) _ _ (by
      simp only [List.flatten_cons, List.flatten_nil, List.append_nil]
      exact host_writes b h₁ h₂),
    Pipeline.withArrays_of_ne _ c (entry m c) _ b (fun w => by fin_cases w; exact h₀.symm)]
  rfl

/-- THE RUN: every weakly fair execution of the kernel ends with its scalar result at zero, its arguments as they were,
    and every semaphore counter at zero. -/
theorem run : θ_run defs (onTc (τ := τ) (main (F := F))) ⟨m, fun _ => 0, ρ⟩ (fun r => (∀ c : Dev nD,
      r.2.mem ((c.tc : Thread nD τ).loc main_v2) = constant (F := F) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun r h => ⟨fun c => ?_, h.2⟩) (launch m ρ)
  have rest (b : Ref sig .tc) (hb : b ∈ Pipeline.restRefs sig spec0) := (h.1 c).2 b hb
  have arg (b : Ref sig .tc) (hb : b ∈ Pipeline.restRefs sig spec0) (h₀ : b ≠ main_v0) (h₁ : b ≠ main_v1)
      (h₂ : b ≠ main_v2) : r.2.mem ((c.tc : Thread nD τ).loc b) = m ((c.tc : Thread nD τ).loc b) :=
    (rest b hb).trans (final_of_ne m c b h₀ h₁ h₂)
  refine ⟨(rest main_v2 (Pipeline.mem_restRefs_of _ (by decide) (by decide))).trans (result_zero m c),
    ?_, ?_, ?_, ?_, ?_, ?_, ?_, ?_⟩
  all_goals exact arg _ (Pipeline.mem_restRefs_of _ (by decide) (by decide)) (by decide) (by decide) (by decide)

end Cert.Kernel.Zero

end
-- ==== Proof.Ideal.lean ====
/- The idealized kernel is the kernel's own text, no operation rewritten, printed under names of its own: its body table
   and its @main equal the kernel's at any float values, so the kernel's run is the idealized kernel's run. -/
module

public import proofs.«01_k».proof.Proof.Zero
public import proofs.«01_k».proof.Proof.Gen.KernelIdeal

@[expose] public section

noncomputable section

namespace Cert.KernelIdeal.Zero

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The two body tables are equal: each has one row, the same body. -/
theorem bodies_eq : KernelIdeal.defs₀ (F := F) = Kernel.defs₀ := by
  unfold KernelIdeal.defs₀ Kernel.defs₀
  refine congrArg (Defs.onTc (nD := nD) (τ := τ) (sig := sig) (Λ := Λ₀)) (funext fun ℓ => ?_)
  fin_cases ℓ
  rfl

/-- So are the tables with the pallas_call's pipeline, -/
theorem defs_eq : KernelIdeal.defs (F := F) = Kernel.defs := congrArg (Pipeline.defs KernelIdeal.pcfgs) bodies_eq

/-- and so are the two @mains. -/
theorem main_eq : KernelIdeal.main (F := F) = Kernel.main := by rfl

/-- THE RUN: every weakly fair execution of the idealized kernel ends with its scalar result at zero, its arguments as
    they were, and every semaphore counter at zero. -/
theorem run : θ_run defs (onTc (τ := τ) (main (F := F))) ⟨m, fun _ => 0, ρ⟩ (fun r => (∀ c : Dev nD,
      r.2.mem ((c.tc : Thread nD τ).loc main_v2) = constant (F := F) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq, main_eq]
  exact Cert.Kernel.Zero.run (F := F) m ρ

end Cert.KernelIdeal.Zero

end
-- ==== Proof.lean ====
module

public import proofs.«01_k».proof.Defs
public import proofs.«01_k».proof.Proof.Ideal
public import proofs.«01_k».proof.Proof.Gen.Reference.Run
public import proofs.«01_k».proof.Proof.Gen.ReferenceIdeal.Run
public import Idealize.ShloMosaic.Lib.Claim

@[expose] public section

noncomputable section

namespace Cert.Proof

open Idealize.ShloMosaic Idealize.SL.Sem

/-- The kernel terminates, leaves its arguments unchanged and every semaphore counter at zero. -/
theorem frame_kernel : Cert.quiescent_Kernel := fun m g _ =>
  (θ_run _ _ _).mono (fun _ h => ⟨fun c => (h.1 c).2, h.2⟩) (Cert.Kernel.Zero.run m g)

/-- So does the idealized kernel, -/
theorem frame_kernel_ideal : Cert.quiescent_KernelIdeal := fun m g _ =>
  (θ_run _ _ _).mono (fun _ h => ⟨fun c => (h.1 c).2, h.2⟩) (Cert.KernelIdeal.Zero.run m g)

/-- so does the reference, -/
theorem frame_reference : Cert.quiescent_Reference := fun m g _ =>
  (θ_run _ _ _).mono (fun r h => ⟨fun c => (h c).2, sem_eq_zero_of_no_sems (by decide) r.2⟩)
    (Cert.Reference.Value.run m g)

/-- and so does the idealized reference. -/
theorem frame_reference_ideal : Cert.quiescent_ReferenceIdeal := fun m g _ =>
  (θ_run _ _ _).mono (fun r h => ⟨fun c => (h c).2, sem_eq_zero_of_no_sems (by decide) r.2⟩)
    (Cert.ReferenceIdeal.Value.run m g)

/-- Kernel and reference leave the same word: each leaves the zero word. -/
theorem bitexact : Cert.bitexact_Kernel_Reference := fun m g m' g' _ _ =>
  ⟨fun _ => constant (F := Bits) Cert.Kernel.S_ .f32 0x00000000#32,
    (θ_run _ _ _).mono (fun _ h => h.1) (Cert.Kernel.Zero.run m g), Cert.Reference.Value.run m' g'⟩

/-- Over the extended reals too kernel and reference leave the same scalar: each leaves the zero word's value. -/
theorem algebraic : Cert.algebraic_KernelIdeal_ReferenceIdeal := fun m g m' g' _ _ =>
  ⟨fun _ => constant (F := Ideal) Cert.KernelIdeal.S_ .f32 0x00000000#32,
    (θ_run _ _ _).mono (fun _ h => h.1) (Cert.KernelIdeal.Zero.run m g), Cert.ReferenceIdeal.Value.run m' g'⟩

/-- All claims. -/
theorem claim : Cert.Claim :=
  ⟨Cert.Kernel.Gen.facts, Cert.KernelIdeal.Gen.facts, Cert.Reference.Gen.facts, Cert.ReferenceIdeal.Gen.facts,
    frame_kernel, frame_kernel_ideal, frame_reference, frame_reference_ideal, trivial, bitexact, algebraic⟩

end Cert.Proof

end
